-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_numbers [hPre_graph_numbers : Cert.Pre_graph_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_graph_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_numbers [hPre_graph_numbers : Cert.Pre_graph_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_graph_numbers [hKernelIdeal : Cert.KernelIdeal.Facts] [hPre_graph_numbers : Cert.Pre_graph_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_graph_numbers [hReferenceIdeal : Cert.ReferenceIdeal.Facts] [hPre_graph_numbers : Cert.Pre_graph_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_graph_numbers [hKernelIdeal : Cert.KernelIdeal.Facts] [hReferenceIdeal : Cert.ReferenceIdeal.Facts] [hPre_graph_numbers : Cert.Pre_graph_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_graph_numbers : Cert.Pre_graph_numbers.Facts),
    quiescent_Kernel (hKernel := hKernel)
    ∧ quiescent_KernelIdeal (hKernelIdeal := hKernelIdeal)
    ∧ quiescent_KernelIdeal_pre_graph_numbers (hKernelIdeal := hKernelIdeal) (hPre_graph_numbers := hPre_graph_numbers)
    ∧ quiescent_ReferenceIdeal (hReferenceIdeal := hReferenceIdeal)
    ∧ quiescent_ReferenceIdeal_pre_graph_numbers (hReferenceIdeal := hReferenceIdeal) (hPre_graph_numbers := hPre_graph_numbers)
    ∧ preserves_Kernel_KernelIdeal
    ∧ algebraic_KernelIdeal_ReferenceIdeal_pre_graph_numbers (hKernelIdeal := hKernelIdeal) (hReferenceIdeal := hReferenceIdeal) (hPre_graph_numbers := hPre_graph_numbers)
-- ==== Pre_graph_numbers.lean ====
abbrev S100000x128 : Shape := ⟨2, ![100000, 128]⟩
abbrev S100000 : Shape := ⟨1, ![100000]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128 .f32) (main_arg3 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S128 : Shape := ⟨1, ![128]⟩
abbrev S50x1x2000 : Shape := ⟨3, ![50, 1, 2000]⟩
abbrev S1x128 : Shape := ⟨2, ![1, 128]⟩
abbrev S2000x128 : Shape := ⟨2, ![2000, 128]⟩
abbrev S1x1x2000 : Shape := ⟨3, ![1, 1, 2000]⟩
abbrev S64x128 : Shape := ⟨2, ![64, 128]⟩
abbrev S2000 : Shape := ⟨1, ![2000]⟩
abbrev S64x2000 : Shape := ⟨2, ![64, 2000]⟩
abbrev S1x2000 : Shape := ⟨2, ![1, 2000]⟩
abbrev S64 : Shape := ⟨1, ![64]⟩
abbrev S64x1 : Shape := ⟨2, ![64, 1]⟩
abbrev S2000x64 : Shape := ⟨2, ![2000, 64]⟩
abbrev S2000x1 : Shape := ⟨2, ![2000, 1]⟩

abbrev nBuf : Space → Nat
  | .hbm => 8
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128, .f32⟩
  | .hbm, ⟨3, _⟩ => ⟨S128, .f32⟩
  | .hbm, ⟨4, _⟩ => ⟨S50x1x2000, .i32⟩
  | .hbm, ⟨5, _⟩ => ⟨S1x128, .f32⟩
  | .hbm, ⟨6, _⟩ => ⟨S1x128, .f32⟩
  | .hbm, ⟨7, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S1x1x2000, .i32⟩
  | .local _ .vmem, ⟨3, _⟩ => ⟨S1x1x2000, .i32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 50], ![false, false]⟩

def k0_cond4 (i : grid0.Coords) : BitVec 1 :=
  let arg0 : BitVec 32 := BitVec.ofNat 32 (i 0).val
  let c1_i32_8 : BitVec 32 := 1#32
  let v15 : BitVec 1 := Scalar.cmpi .eq arg0 c1_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S100000x128 : Shape := ⟨2, ![100000, 128]⟩
abbrev S100000 : Shape := ⟨1, ![100000]⟩
abbrev S128 : Shape := ⟨1, ![128]⟩
abbrev S_ : Shape := ⟨0, ![]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128, .f32⟩
  | .hbm, ⟨3, _⟩ => ⟨S128, .f32⟩
  | .hbm, ⟨4, _⟩ => ⟨S100000x128, .f32⟩
  | .hbm, ⟨5, _⟩ => ⟨S_, .f32⟩
  | .hbm, ⟨6, _⟩ => ⟨S64x128, .f32⟩
  | .hbm, ⟨7, _⟩ => ⟨S100000x1, .i32⟩
  | .hbm, ⟨8, _⟩ => ⟨S64x128, .f32⟩
  | .hbm, ⟨9, _⟩ => ⟨S_, .f32⟩
  | .hbm, ⟨10, _⟩ => ⟨S100000, .f32⟩
  | .hbm, ⟨11, _⟩ => ⟨S_, .f32⟩
  | .hbm, ⟨12, _⟩ => ⟨S64, .f32⟩
  | .hbm, ⟨13, _⟩ => ⟨S100000x1, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64x1, .f32⟩
  | .hbm, ⟨19, _⟩ => ⟨S64x128, .f32⟩
  | .hbm, ⟨20, _⟩ => ⟨S64x128, .f32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S1, .i32⟩
  | .hbm, ⟨30, _⟩ => ⟨S_, .i32⟩
  | .hbm, ⟨31, _⟩ => ⟨S100000x1, .i32⟩
  | .hbm, ⟨32, _⟩ => ⟨S100000x1, .i1⟩
  | .hbm, ⟨33, _⟩ => ⟨S1x1, .i32⟩
  | .hbm, ⟨34, _⟩ => ⟨S100000x1, .i32⟩
  | .hbm, ⟨35, _⟩ => ⟨S100000x1, .i1⟩
  | .hbm, ⟨36, _⟩ => ⟨S100000x1, .i1⟩
  | .hbm, ⟨37, _⟩ => ⟨S_, .i1⟩
  | .hbm, ⟨38, _⟩ => ⟨S100000, .i1⟩
  | .hbm, ⟨39, _⟩ => ⟨S100000x128, .f32⟩
  | .hbm, ⟨40, _⟩ => ⟨S100000x128, .i1⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩

abbrev nD : Nat := 1
abbrev τ : Topo := Topo.v7x

variable {F : FTy → Type} [FloatOps F]
-- ==== Proof.Body.lean ====
/- One call of the kernel's body, on whole buffers of known contents.

   The body has four guarded stretches: the first clears the two tables of sums, the second adds the point's rows
   into them, the third turns them into the table of scales, the fourth scales the point's rows. `body_run` runs all
   of them at once: what each buffer ends with is told by an `if` over the guard that writes it. -/
module

public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The guards -/

/-- The guard of the clearing stretch. -/
abbrev Clears (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1
/-- The guard of the adding stretch. -/
abbrev Adds (i : grid0.Coords) : Prop :=
  Scalar.cmpi .ne (Scalar.extui (Scalar.cmpi .eq (BitVec.ofNat 32 (i 0).val) 0#32)) 0#32 = 1#1
/-- The guard of the stretch that turns the sums into scales. -/
abbrev Turns (i : grid0.Coords) : Prop :=
  Scalar.cmpi .ne (Scalar.extui (Scalar.andi (Scalar.cmpi .eq (BitVec.ofNat 32 (i 0).val) 1#32)
    (Scalar.cmpi .eq (BitVec.ofNat 32 (i 1).val) 0#32))) 0#32 = 1#1
/-- The guard of the scaling stretch. -/
abbrev Scales (i : grid0.Coords) : Prop := k0_cond4 i = 1#1

/-- The two coordinates of point `t`. -/
theorem coords_of (t : Fin grid0.N) :
    t.val < 100 ∧ (grid0.coords t 0).val = t.val / 50 % 2 ∧ (grid0.coords t 1).val = t.val / 1 % 50 :=
  ⟨Nat.lt_of_lt_of_eq t.isLt N_0, Pipeline.Grid.coords_val t 0 (by decide) rfl, Pipeline.Grid.coords_val t 1 (by decide) rfl⟩

/-- The tables are cleared at the first point. -/
theorem clears_iff (t : Fin grid0.N) : Clears (grid0.coords t) ↔ t.val = 0 := by
  obtain ⟨ht, e0, e1⟩ := coords_of t
  simp only [Clears, e0, e1]; word_cmp

/-- The first half of the points adds. -/
theorem adds_iff (t : Fin grid0.N) : Adds (grid0.coords t) ↔ t.val < 50 := by
  obtain ⟨ht, e0, e1⟩ := coords_of t
  simp only [Adds, e0, e1]; word_cmp

/-- Point 50 turns the sums into scales. -/
theorem turns_iff (t : Fin grid0.N) : Turns (grid0.coords t) ↔ t.val = 50 := by
  obtain ⟨ht, e0, e1⟩ := coords_of t
  simp only [Turns, e0, e1]; word_cmp

/-- The second half of the points scales. -/
theorem scales_iff (t : Fin grid0.N) : Scales (grid0.coords t) ↔ 50 ≤ t.val := by
  obtain ⟨ht, e0, e1⟩ := coords_of t
  simp only [Scales, k0_cond4, e0, e1]; word_cmp

/-! ## What one call leaves -/

/-- The zero offset of a rectangle of two axes. -/
theorem off2 : (![0, 0] : Fin 2 → Nat) = fun _ => 0 := by decide
/-- The zero offset of a rectangle of three axes. -/
theorem off3 : (![0, 0, 0] : Fin 3 → Nat) = fun _ => 0 := by decide

/-- The table of sums of squares after a call. -/
def sums (i : grid0.Coords) (x : Vec F S2000x128 .f32) (b : Vec F S1x1x2000 .i32) (a : Vec F S64x128 .f32) : Vec F S64x128 .f32 :=
  open Classical in if Adds i then k0_pay5 b x (if Clears i then k0_pay1 else a) else a

/-- The table of counts after a call. -/
def counts (i : grid0.Coords) (b : Vec F S1x1x2000 .i32) (k : Vec F S64x128 .f32) : Vec F S64x128 .f32 :=
  open Classical in if Adds i then k0_pay6 b (if Clears i then k0_pay2 else k) else k

/-- The table of scales after a call. -/
def scales (i : grid0.Coords) (a k v : Vec F S64x128 .f32) : Vec F S64x128 .f32 :=
  open Classical in if Turns i then k0_pay7 a k else v

/-- The rows of the output after a call. -/
def rows (i : grid0.Coords) (x : Vec F S2000x128 .f32) (b : Vec F S1x1x2000 .i32) (w z : Vec F S1x128 .f32)
    (v : Vec F S64x128 .f32) (o : Vec F S2000x128 .f32) : Vec F S2000x128 .f32 :=
  open Classical in if Scales i then k0_pay8 b x v w z else o

/-- Which guards hold together. -/
def Case (i : grid0.Coords) : Prop :=
  (Clears i ∧ Adds i ∧ ¬ Turns i ∧ ¬ Scales i) ∨ (¬ Clears i ∧ Adds i ∧ ¬ Turns i ∧ ¬ Scales i)
    ∨ (¬ Clears i ∧ ¬ Adds i ∧ Turns i ∧ Scales i) ∨ (¬ Clears i ∧ ¬ Adds i ∧ ¬ Turns i ∧ Scales i)

/-- Every point is in one of the four cases. -/
theorem case_of (t : Fin grid0.N) : Case (grid0.coords t) := by
  have hN := (coords_of t).1
  unfold Case
  rw [clears_iff, adds_iff, turns_iff, scales_iff]
  omega

variable {sp : Space}

/-- A buffer after one whole-buffer store, whatever stores came before it, reads as the stored value. -/
theorem read_stored {S : Shape} {e : EltTy} (V : View sig .tc sp S e) (f) {off : Fin S.rank → Nat} (h : off = fun _ => 0)
    (inb : ∀ a, off a + S.size a ≤ S.size a) (x : S.Idx → Elt F e) (L : List (View.Piece (Elt F) S e)) :
    V.read (Elt F) (V.writes (Elt F) f ((⟨Rect.unit off S.size inb, x⟩ : View.Piece (Elt F) S e) :: L)) = x := by
  rw [View.read_writes_eq_canon V f _ fun y => ⟨_, List.mem_cons_self, View.mem_set_unit_zero h inb y⟩]
  exact View.canon_cons_unit_zero h inb x L

/-- A load of the whole buffer reads its contents. -/
theorem readAt_whole {S : Shape} {e : EltTy} (V : View sig .tc sp S e) (f) {off : Fin S.rank → Nat} (h : off = fun _ => 0)
    (inb : ∀ a, off a + S.size a ≤ S.size a) :
    V.readAt (Elt F) (Rect.unit off S.size inb).toLoadRect f = V.read (Elt F) f :=
  View.ld_unit_zero h inb _

set_option maxHeartbeats 4000000 in
/-- THE BODY'S RUN: from the inputs' blocks, the output's buffer and the three tables at known contents, the body gives
    the inputs back and leaves the others as `rows`, `sums`, `counts` and `scales` tell. -/
theorem body_run (c : Dev nD) (i : grid0.Coords) (arg2 : Memref sig .tc .vmem S2000x128 .f32) (harg2 : arg2.IsWhole)
    (arg3 : Memref sig .tc .vmem S1x1x2000 .i32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S64x128 .f32) (harg7 : arg7.IsWhole) (arg8 : Memref sig .tc .vmem S64x128 .f32) (harg8 : arg8.IsWhole)
    (arg9 : Memref sig .tc .vmem S64x128 .f32) (harg9 : arg9.IsWhole) (hcase : Case i)
    (x : Vec F S2000x128 .f32) (b : Vec F S1x1x2000 .i32) (w z : Vec F S1x128 .f32) (o : Vec F S2000x128 .f32) (a k v : Vec F S64x128 .f32)
    (E : Set ℕ) (K : PUnit → sProp 𝕄) :
    iprop(owns (c : Thread nD τ) arg2 fullShare x ∗ owns (c : Thread nD τ) arg3 fullShare b ∗ owns (c : Thread nD τ) arg4 fullShare w
        ∗ owns (c : Thread nD τ) arg5 fullShare z ∗ owns (c : Thread nD τ) arg6 fullShare o
        ∗ owns (c : Thread nD τ) arg7 fullShare a ∗ owns (c : Thread nD τ) arg8 fullShare k ∗ owns (c : Thread nD τ) arg9 fullShare v
        ∗ (iprop(owns (c : Thread nD τ) arg2 fullShare x ∗ owns (c : Thread nD τ) arg3 fullShare b ∗ owns (c : Thread nD τ) arg4 fullShare w
            ∗ owns (c : Thread nD τ) arg5 fullShare z
            ∗ owns (c : Thread nD τ) arg6 fullShare (rows i x b w z (scales i (sums i x b a) (counts i b k) v) o)
            ∗ owns (c : Thread nD τ) arg7 fullShare (sums i x b a) ∗ owns (c : Thread nD τ) arg8 fullShare (counts i b k)
            ∗ owns (c : Thread nD τ) arg9 fullShare (scales i (sums i x b a) (counts i b k) v)) -∗ K ⟨⟩))
      ⊢ wp frame (wpE (defs₀ (F := F)) Variants.none c none) E
          (cc0__body i arg2 harg2 arg3 harg3 arg4 harg4 arg5 harg5 arg6 harg6 arg7 harg7 arg8 harg8 arg9 harg9) K := by
  unfold Case at hcase
  obtain ⟨h1, h2, h3, h4⟩ | ⟨h1, h2, h3, h4⟩ | ⟨h1, h2, h3, h4⟩ | ⟨h1, h2, h3, h4⟩ := hcase
  all_goals
    simp only [rows, scales, counts, sums]
    first | simp only [if_pos h4] | simp only [if_neg h4] | skip
    first | simp only [if_pos h3] | simp only [if_neg h3] | skip
    first | simp only [if_pos h2] | simp only [if_neg h2] | skip
    first | simp only [if_pos h1] | simp only [if_neg h1] | skip
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | sl_exact h1 | sl_exact h2 | sl_exact h3 | sl_exact h4)
    sl_step
    iapply Hk
  all_goals
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      first
        | with_reducible exact hf4
        | (sl_unfold_words
           rw [read_stored (S := S2000x128) _ _ off2]
           simp only [readAt_whole (S := S64x128) _ _ off2, readAt_whole (S := S2000x128) _ _ off2, readAt_whole (S := S1x128) _ _ off2,
             readAt_whole (S := S1x1x2000) _ _ off3, View.readCov_unit_zero (S := S64x128) _ off2, hf0, hf1, hf2, hf3, hf5, hf6, hf7])
    isplitl [H5]
    · iexists _; isplitr; swap; · iexact H5
      ipureintro
      first
        | with_reducible exact hf5
        | (sl_unfold_words
           rw [read_stored (S := S64x128) _ _ off2]
           simp only [readAt_whole (S := S64x128) _ _ off2, readAt_whole (S := S2000x128) _ _ off2, readAt_whole (S := S1x128) _ _ off2,
             readAt_whole (S := S1x1x2000) _ _ off3, View.readCov_unit_zero (S := S64x128) _ off2, hf0, hf1, hf2, hf3, hf5, hf6, hf7])
    isplitl [H6]
    · iexists _; isplitr; swap; · iexact H6
      ipureintro
      first
        | with_reducible exact hf6
        | (sl_unfold_words
           rw [read_stored (S := S64x128) _ _ off2]
           simp only [readAt_whole (S := S64x128) _ _ off2, readAt_whole (S := S2000x128) _ _ off2, readAt_whole (S := S1x128) _ _ off2,
             readAt_whole (S := S1x1x2000) _ _ off3, View.readCov_unit_zero (S := S64x128) _ off2, hf0, hf1, hf2, hf3, hf5, hf6, hf7])
    iexists _; isplitr; swap; · iexact H7
    ipureintro
    first
      | with_reducible exact hf7
      | (sl_unfold_words
         rw [read_stored (S := S64x128) _ _ off2]
         simp only [readAt_whole (S := S64x128) _ _ off2, readAt_whole (S := S2000x128) _ _ off2, readAt_whole (S := S1x128) _ _ off2,
           readAt_whole (S := S1x1x2000) _ _ off3, View.readCov_unit_zero (S := S64x128) _ off2, hf0, hf1, hf2, hf3, hf5, hf6, hf7])

end Cert.Proof.Body

end
-- ==== Proof.Frame.lean ====
/- The kernel's whole run: what the three tables hold between points, and what every buffer ends with.

   `acc n` and `cnt n` are the tables of sums and counts once the first `n` points (of the adding half) have run. The
   invariant names them after the first point and the table of scales after point 50; before that a table holds anything. -/
module

public import proofs.«01_k».proof.Proof.Body
public import Idealize.ShloMosaic.Lib.Claim

@[expose] public section

set_option maxRecDepth 16384

noncomputable section

namespace Cert.Proof.Kernel

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables between points -/

/-- Point number `n`, counted modulo the grid's size. -/
def pt (n : ℕ) : Fin cfg0.N := ⟨n % 100, lt_of_lt_of_eq (Nat.mod_lt _ (by decide)) (show 100 = cfg0.N from N_0.symm)⟩

theorem pt_val (t : Fin cfg0.N) : pt t.val = t :=
  Fin.ext (Nat.mod_eq_of_lt (lt_of_lt_of_eq t.isLt (show cfg0.N = 100 from N_0)))

/-- The table of sums of squares after `n` adding points. -/
def acc (c : Dev nD) : ℕ → Vec F S64x128 .f32
  | 0 => k0_pay1
  | n + 1 => k0_pay5 (iblk m c 1 (pt n)) (iblk m c 0 (pt n)) (acc c n)

/-- The table of counts after `n` adding points. -/
def cnt (c : Dev nD) : ℕ → Vec F S64x128 .f32
  | 0 => k0_pay2
  | n + 1 => k0_pay6 (iblk m c 1 (pt n)) (cnt c n)

/-- The table of scales, from the full sums and counts. -/
def scl (c : Dev nD) : Vec F S64x128 .f32 := k0_pay7 (acc m c 50) (cnt m c 50)

/-- The output's rows at a scaling point. -/
def outRows (c : Dev nD) (t : Fin cfg0.N) : Vec F S2000x128 .f32 :=
  k0_pay8 (iblk m c 1 t) (iblk m c 0 t) (scl m c) (iblk m c 2 t) (iblk m c 3 t)

/-- What is known of the tables' contents once `n` points have run. -/
structure Known (c : Dev nD) (n : ℕ) (a k v : Vec F S64x128 .f32) : Prop where
  sums : 1 ≤ n → a = acc m c (min n 50)
  counts : 1 ≤ n → k = cnt m c (min n 50)
  scales : 51 ≤ n → v = scl m c

/-- One call of the body carries what is known over a point. -/
theorem Known.step {c : Dev nD} (t : Fin cfg0.N) {a k v : Vec F S64x128 .f32} (h : Known m c t.val a k v) :
    Known m c (t.val + 1) (Body.sums (grid0.coords t) (iblk m c 0 t) (iblk m c 1 t) a) (Body.counts (grid0.coords t) (iblk m c 1 t) k)
      (Body.scales (grid0.coords t) (Body.sums (grid0.coords t) (iblk m c 0 t) (iblk m c 1 t) a) (Body.counts (grid0.coords t) (iblk m c 1 t) k) v) := by
  have hA := adds_iff t; have hC := clears_iff t; have hT := turns_iff t
  have ea : Body.sums (grid0.coords t) (iblk m c 0 t) (iblk m c 1 t) a = acc m c (min (t.val + 1) 50) := by
    unfold Body.sums
    by_cases h50 : t.val < 50
    · rw [if_pos (hA.mpr h50), show min (t.val + 1) 50 = t.val + 1 by omega, acc, pt_val]
      by_cases h0 : t.val = 0
      · rw [if_pos (hC.mpr h0), h0, acc]
      · rw [if_neg (fun e => h0 (hC.mp e)), h.sums (by omega), show min t.val 50 = t.val by omega]
    · rw [if_neg (fun e => h50 (hA.mp e)), h.sums (by omega), show min t.val 50 = 50 by omega, show min (t.val + 1) 50 = 50 by omega]
  have ek : Body.counts (grid0.coords t) (iblk m c 1 t) k = cnt m c (min (t.val + 1) 50) := by
    unfold Body.counts
    by_cases h50 : t.val < 50
    · rw [if_pos (hA.mpr h50), show min (t.val + 1) 50 = t.val + 1 by omega, cnt, pt_val]
      by_cases h0 : t.val = 0
      · rw [if_pos (hC.mpr h0), h0, cnt]
      · rw [if_neg (fun e => h0 (hC.mp e)), h.counts (by omega), show min t.val 50 = t.val by omega]
    · rw [if_neg (fun e => h50 (hA.mp e)), h.counts (by omega), show min t.val 50 = 50 by omega, show min (t.val + 1) 50 = 50 by omega]
  refine ⟨fun _ => ea, fun _ => ek, fun h51 => ?_⟩
  rw [ea, ek, show min (t.val + 1) 50 = 50 by omega]
  unfold Body.scales
  by_cases h50 : t.val = 50
  · rw [if_pos (hT.mpr h50)]; rfl
  · rw [if_neg (fun e => h50 (hT.mp e))]; exact h.scales (by omega)

/-- The output's buffer after a scaling point. -/
theorem Known.rows {c : Dev nD} (t : Fin cfg0.N) (ht : 50 ≤ t.val) {a k v : Vec F S64x128 .f32} (h : Known m c (t.val + 1) a k v)
    (o : Vec F S2000x128 .f32) :
    Body.rows (grid0.coords t) (iblk m c 0 t) (iblk m c 1 t) (iblk m c 2 t) (iblk m c 3 t) v o = outRows m c t := by
  unfold Body.rows
  rw [if_pos ((scales_iff t).mpr ht), h.scales (by omega)]; rfl

/-! ## The proof data -/

/-- The invariant before point `n`: the three tables at contents of which `Known` tells, and the generator's register. -/
def Inv (c : Dev nD) (n : ℕ) : sProp 𝕄 :=
  iprop(iprop(∃ a k v, ⌜Known m c n a k v⌝ ∗ owns (c : Thread nD τ) (Memref.whole cc0_scratch0) fullShare a
    ∗ owns (c : Thread nD τ) (Memref.whole cc0_scratch1) fullShare k ∗ owns (c : Thread nD τ) (Memref.whole cc0_scratch2) fullShare v)
    ∗ (∃ r, prngReg c r))

/-- The pipeline's proof data: the arrays as the region finds them, the input blocks kept, the output's rows written. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRows m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outRows m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- An input's buffer is handed back with its block in it. -/
theorem leaves0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (cfg0.grid.coords t) = false from rfl, after3]

/-- The output's buffer is idle at the adding points. -/
theorem idle4 (t : Fin cfg0.N) : cfg0.idle 4 (cfg0.grid.coords t) = decide (t.val < 50) := by
  show (!(k0_cond4 (grid0.coords t) == 1#1)) = decide (t.val < 50)
  have h := scales_iff t
  by_cases ht : t.val < 50
  · rw [decide_eq_true ht, beq_false_of_ne (fun e => by have := h.mp e; omega)]; rfl
  · rw [decide_eq_false ht, h.mpr (by omega)]; rfl

set_option maxRecDepth 65536 in
/-- No adding point writes the output back. -/
theorem flush4 : ∀ t : Fin cfg0.N, (cfg0.win 4).flush t = decide (50 ≤ t.val) := by
  decide +kernel

/-- What the body leaves in the output's buffer is what the pipeline asks for, at either kind of point. -/
theorem leaves4 (c : Dev nD) (t : Fin cfg0.N) (d : Vec F S2000x128 .f32) {a k v : Vec F S64x128 .f32} (h : Known m c (t.val + 1) a k v) :
    (owns (c : Thread nD τ) (win0_4.stage (cfg0.slots t 4)) fullShare
        (Body.rows (grid0.coords t) (iblk m c 0 t) (iblk m c 1 t) (iblk m c 2 t) (iblk m c 3 t) v ((dats m 0 c).before 4 t d)) : sProp 𝕄)
      ⊢ (dats m 0 c).leavesExact 4 t := by
  unfold Dat.leavesExact
  rw [idle4 t, flush4 t]
  by_cases ht : t.val < 50
  · rw [decide_eq_true ht, decide_eq_false (show ¬ 50 ≤ t.val by omega)]
    unfold Body.rows
    rw [if_neg (fun e => by have := (scales_iff t).mp e; omega)]
    iintro H; iexists d; iexact H
  · rw [decide_eq_false ht, h.rows m t (by omega), ← after4]

/-! ## The body's obligation at a point -/

/-- The body at point `t`, from what the pipeline calls it with to what the pipeline asks for. -/
theorem point_run (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d)))
      ⊢ wp frame (wpE (defs₀ (F := F)) Variants.none c none) Set.univ (bodyAt0 t) fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t) := by
  unfold bodyAt0
  simp only [before0, before1, before2, before3, leaves0, leaves1, leaves2, leaves3]
  rw [show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  iintro ⟨⟨⟨%a, %k, %v, %hK, HA, HB, HC⟩, Hg⟩, Ho, ⟨%d0, H0⟩, ⟨%d1, H1⟩, ⟨%d2, H2⟩, ⟨%d3, H3⟩, ⟨%d4, H4⟩⟩
  have hK' := hK.step m t
  iapply (body_run c (grid0.coords t) _ _ _ _ _ _ _ _ _ _ _ _ _ _ _ _ (case_of t) (iblk m c 0 t) (iblk m c 1 t) (iblk m c 2 t) (iblk m c 3 t)
    ((dats m 0 c).before 4 t d4) a k v Set.univ _)
  isplitl [H0]; · iexact H0
  isplitl [H1]; · iexact H1
  isplitl [H2]; · iexact H2
  isplitl [H3]; · iexact H3
  isplitl [H4]; · iexact H4
  isplitl [HA]; · iexact HA
  isplitl [HB]; · iexact HB
  isplitl [HC]; · iexact HC
  iintro ⟨H0, H1, H2, H3, H4, HA, HB, HC⟩
  isplitl [HA HB HC Hg]
  · isplitl [HA HB HC]
    · iexists _, _, _
      isplitr; · ipureintro; exact hK'
      isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  iapply (leaves4 m c t d4 hK')
  iexact H4

/-- The body table's row at point `t`'s buffers is the body there. -/
theorem row_eq (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, row_eq]
  exact triple_restated (point_run m c t) rfl .rfl fun _ => .rfl

/-! ## The launch -/

/-- The region's own invariant: the tables at anything. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]

theorem enters (c : Dev nD) : Pipeline.ΦA spec0 c ⊢ (dats m 0 c).Φ 0 := by
  rw [show (dats m 0 c).Φ 0 = Inv m c 0 from rfl, scratch_eq]
  unfold Inv
  iintro ⟨⟨⟨%a, HA⟩, ⟨%k, HB⟩, ⟨%v, HC⟩⟩, Hg⟩
  isplitl [HA HB HC]
  · iexists a, k, v
    isplitr; · ipureintro; exact ⟨fun h => by omega, fun h => by omega, fun h => by omega⟩
    isplitl [HA]; · iexact HA
    isplitl [HB]; · iexact HB
    iexact HC
  iexact Hg

theorem leaves (c : Dev nD) : (dats m 0 c).Φ (Fin.last cfg0.N) ⊢ Pipeline.ΦA spec0 c := by
  rw [show (dats m 0 c).Φ (Fin.last cfg0.N) = Inv m c (Fin.last cfg0.N).val from rfl, scratch_eq]
  unfold Inv
  iintro ⟨⟨%a, %k, %v, -, HA, HB, HC⟩, Hg⟩
  isplitl [HA HB HC]
  · isplitl [HA]; · iexists a; iexact HA
    isplitl [HB]; · iexists k; iexact HB
    iexists v; iexact HC
  iexact Hg

set_option backward.isDefEq.respectTransparency.types false in
/-- THE RUN: every weakly fair execution ends, every window's array at its written-back contents, every other buffer as the
    region found it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enters m) (hout := leaves m)

/-- THE FRAME: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The same run with the output array named: its contents after every write-back. -/
theorem run_value : θ_run defs (onTc (τ := τ) (main (F := F))) ⟨m, fun _ => 0, ρ⟩ (fun r => (∀ c : Dev nD,
      r.2.mem ((c.tc : Thread nD τ).loc main_v3) = (dats m 0 c).arrAt 4 cfg0.N)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  θ_run_and ((θ_run defs _ _).mono (fun _ h c => (h.1 c).1 4) (run_main m ρ))
    ((θ_run defs _ _).mono (fun _ h => h.1) (frame m ρ))

end Cert.Proof.Kernel

end
-- ==== Proof.Spec.lean ====
/- The normalisation, written out on the extended reals: what both programs are shown to compute.

   `hot k w` is one where the word `w` is the number `k`, else zero. A graph's table entry is the sum of the squares of its
   rows, its count the number of its rows. -/
module

public import Idealize.ShloMosaic.Lib.Pointwise
public import Idealize.ShloMosaic.Lib.Pipeline.ValueKit.Acc

@[expose] public section

set_option maxRecDepth 16384

noncomputable section

namespace Cert.Proof.Spec

open Idealize.ShloMosaic

/-- One where the word `w` is the number `k`, zero elsewhere. -/
def hot (k : ℕ) (w : BitVec 32) : EReal := if BitVec.ofNat 32 k = w then 1 else 0

/-- A comparison's bit, widened and made a float, is `hot`. -/
theorem hot_eq (k : ℕ) (w : BitVec 32) :
    FloatOps.sitofp (F := Ideal) .f32 (BitVec.setWidth 32 (IntOp.cmpi .eq (BitVec.ofNat 32 k) w)) = hot k w := by
  show (((BitVec.setWidth 32 (BitVec.ofBool (BitVec.ofNat 32 k == w))).toInt : ℝ) : EReal) = hot k w
  unfold hot
  by_cases h : BitVec.ofNat 32 k = w
  · rw [if_pos h, h, beq_self_eq_true, show (BitVec.setWidth 32 (BitVec.ofBool true)).toInt = 1 by decide, Int.cast_one, EReal.coe_one]
  · rw [if_neg h, beq_eq_false_iff_ne.mpr h, show (BitVec.setWidth 32 (BitVec.ofBool false)).toInt = 0 by decide, Int.cast_zero,
      EReal.coe_zero]

theorem hot_self (k : ℕ) : hot k (BitVec.ofNat 32 k) = 1 := if_pos rfl

theorem hot_ne {j k : ℕ} (hj : j < 64) (hk : k < 64) (h : j ≠ k) : hot j (BitVec.ofNat 32 k) = 0 :=
  if_neg fun e => h (by
    have := congrArg BitVec.toNat e
    rw [BitVec.toNat_ofNat, BitVec.toNat_ofNat, Nat.mod_eq_of_lt (by omega), Nat.mod_eq_of_lt (by omega)] at this
    exact this)

variable (x : FVec Ideal ⟨2, ![100000, 128]⟩ .f32) (b : IVec ⟨1, ![100000]⟩ 32) (w z : FVec Ideal ⟨1, ![128]⟩ .f32)

/-- The sum, over the rows of graph `g`, of the squares in column `f`. -/
def total (g : ℕ) (f : Fin 128) : EReal := ∑ R : Fin 100000, hot g (b (ix1 R)) * (x (ix2 R f) * x (ix2 R f))

/-- The number of rows of graph `g`. -/
def number (g : ℕ) : EReal := ∑ R : Fin 100000, hot g (b (ix1 R))

/-- The scale of graph `g` in column `f`: one over the root of the mean of the squares plus a small constant. -/
def scale (g : ℕ) (f : Fin 128) : EReal :=
  Ideal.rsqrt (Ideal.div (total x b g f) (max (number b g) 1) + Ideal.ofBits .f32 0x358637BD#32)

/-- An entry of the result, its row's graph picked by a sum over all graphs. -/
def result (R : Fin 100000) (f : Fin 128) : EReal :=
  x (ix2 R f) * (∑ k : Fin 64, hot k.val (b (ix1 R)) * scale x b k.val f) * w (ix1 f) + z (ix1 f)

/-- For a row of graph `k` the sum over all graphs is that graph's scale. -/
theorem result_of (R : Fin 100000) (f : Fin 128) (k : Fin 64) (hk : b (ix1 R) = BitVec.ofNat 32 k.val) :
    result x b w z R f = x (ix2 R f) * scale x b k.val f * w (ix1 f) + z (ix1 f) := by
  unfold result
  rw [Finset.sum_eq_single k (fun j _ hj => ?_) (fun h => absurd (Finset.mem_univ k) h), hk, hot_self, one_mul]
  rw [hk, hot_ne j.isLt k.isLt (fun e => hj (Fin.ext e)), zero_mul]

end Cert.Proof.Spec

end
-- ==== Proof.KernelValue.lean ====
/- What the kernel's result array holds at `Ideal`: the normalisation of the argument arrays. -/
module

public import proofs.«01_k».proof.Proof.Frame
public import proofs.«01_k».proof.Proof.Spec
public import Idealize.ShloMosaic.Lib.Pipeline.ValueKit.Point

@[expose] public section

set_option maxRecDepth 16384

noncomputable section

namespace Cert.Proof.KernelValue

open Cert.KernelIdeal Cert.KernelIdeal.Gen Cert.Proof.Kernel Cert.Proof.Spec
open Idealize.ShloMosaic Idealize.ShloMosaic.TcCoe Idealize.SL.Sem

/-! ## What the body computes, at an index -/

section Body

variable (b : Vec Ideal S1x1x2000 .i32) (x : Vec Ideal S2000x128 .f32) (a k : Vec Ideal S64x128 .f32) (w z : Vec Ideal S1x128 .f32)

theorem zero_sums (g : Fin 64) (f : Fin 128) : k0_pay1 (F := Ideal) (ix2 g f) = (0 : EReal) := by pointwise [k0_pay1]

theorem zero_counts (g : Fin 64) (f : Fin 128) : k0_pay2 (F := Ideal) (ix2 g f) = (0 : EReal) := by pointwise [k0_pay2]

/-- The sums take on a block's squares. -/
theorem add_sums (g : Fin 64) (f : Fin 128) :
    k0_pay5 b x a (ix2 g f) = a (ix2 g f) + ∑ r : Fin 2000, hot g.val (b (ix3 0 0 r)) * (x (ix2 r f) * x (ix2 r f)) := by
  pointwise [k0_pay5, k0_pay4, k0_pay3]
  simp only [hot_eq]

/-- The counts take on a block's rows. -/
theorem add_counts (g : Fin 64) (f : Fin 128) :
    k0_pay6 b k (ix2 g f) = k (ix2 g f) + ∑ r : Fin 2000, hot g.val (b (ix3 0 0 r)) := by
  pointwise [k0_pay6, k0_pay4, k0_pay3]
  simp only [hot_eq]

theorem scales_at (g : Fin 64) (f : Fin 128) :
    k0_pay7 a k (ix2 g f) = Ideal.rsqrt (Ideal.div (a (ix2 g f)) (max (k (ix2 g f)) 1) + Ideal.ofBits .f32 0x358637BD#32) := by
  pointwise [k0_pay7]

/-- A block's rows, scaled. -/
theorem rows_at (r : Fin 2000) (f : Fin 128) :
    k0_pay8 b x a w z (ix2 r f)
      = x (ix2 r f) * (∑ g : Fin 64, hot g.val (b (ix3 0 0 r)) * a (ix2 g f)) * w (ix2 0 f) + z (ix2 0 f) := by
  pointwise [k0_pay8, k0_pay3]
  simp only [hot_eq]

end Body

/-! ## The blocks, of the argument arrays -/

variable (m : (ℓ : Loc nD τ sig) → Buf (Elt Ideal) ℓ) (ρ : Dev nD → PrngReg)

theorem index0 : ∀ t : Fin cfg0.N, win0_0.index t = ![t.val % 50, 0] := (by decide +kernel : ∀ t : Fin grid0.N, _)
theorem index1 : ∀ t : Fin cfg0.N, win0_1.index t = ![t.val % 50, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val - 50, 0] := (by decide +kernel : ∀ t : Fin grid0.N, _)

/-- The arguments: the rows, the graph numbers, the weight and the bias. -/
abbrev X (c : Dev nD) : FVec Ideal ⟨2, ![100000, 128]⟩ .f32 := m ((c : Thread nD τ).loc main_arg0)
abbrev B (c : Dev nD) : IVec ⟨1, ![100000]⟩ 32 := m ((c : Thread nD τ).loc main_arg1)
abbrev W (c : Dev nD) : FVec Ideal ⟨1, ![128]⟩ .f32 := m ((c : Thread nD τ).loc main_arg2)
abbrev Z (c : Dev nD) : FVec Ideal ⟨1, ![128]⟩ .f32 := m ((c : Thread nD τ).loc main_arg3)

theorem block0 (c : Dev nD) (t : Fin cfg0.N) (r : Fin 2000) (f : Fin 128) (R : Fin 100000) (hR : R.val = 2000 * (t.val % 50) + r.val) :
    iblk m c 0 t (ix2 r f) = X m c (ix2 R f) := by
  blk_simp [iblk]
  rw [V_main_arg0]
  blk_ext [index0]

theorem block1 (c : Dev nD) (t : Fin cfg0.N) (r : Fin 2000) (R : Fin 100000) (hR : R.val = 2000 * (t.val % 50) + r.val) :
    iblk m c 1 t (ix3 0 0 r) = B m c (ix1 R) := by
  blk_simp [iblk]
  entry_read
  pointwise
  blk_ext [index1]

theorem block2 (c : Dev nD) (t : Fin cfg0.N) (f : Fin 128) : iblk m c 2 t (ix2 0 f) = W m c (ix1 f) := by
  blk_simp [iblk]
  entry_read
  pointwise
  blk_ext [index2]

theorem block3 (c : Dev nD) (t : Fin cfg0.N) (f : Fin 128) : iblk m c 3 t (ix2 0 f) = Z m c (ix1 f) := by
  blk_simp [iblk]
  entry_read
  pointwise
  blk_ext [index3]

/-! ## The tables -/

/-- Row `n`, counted modulo the number of rows. -/
def row (n : ℕ) : Fin 100000 := ⟨n % 100000, Nat.mod_lt _ (by decide)⟩

/-- The sums after `n` adding points run over the first `n` blocks. -/
theorem acc_at (c : Dev nD) (g : Fin 64) (f : Fin 128) (n : ℕ) (hn : n ≤ 50) :
    acc m c n (ix2 g f) = ∑ s ∈ Finset.range n, ∑ r : Fin 2000,
      hot g.val (B m c (ix1 (row (s * 2000 + r.val)))) * (X m c (ix2 (row (s * 2000 + r.val)) f) * X m c (ix2 (row (s * 2000 + r.val)) f)) := by
  induction n with
  | zero => rw [acc, zero_sums, Finset.sum_range_zero]
  | succ n ih =>
    rw [acc, add_sums, ih (by omega), Finset.sum_range_succ]
    refine congrArg _ (Finset.sum_congr rfl fun r _ => ?_)
    have hR : (row (n * 2000 + r.val)).val = 2000 * ((pt n).val % 50) + r.val := by
      have := r.isLt; show (n * 2000 + r.val) % 100000 = 2000 * (n % 100 % 50) + r.val; omega
    rw [block1 m c (pt n) r _ hR, block0 m c (pt n) r f _ hR]

/-- The counts likewise. -/
theorem cnt_at (c : Dev nD) (g : Fin 64) (f : Fin 128) (n : ℕ) (hn : n ≤ 50) :
    cnt m c n (ix2 g f) = ∑ s ∈ Finset.range n, ∑ r : Fin 2000, hot g.val (B m c (ix1 (row (s * 2000 + r.val)))) := by
  induction n with
  | zero => rw [cnt, zero_counts, Finset.sum_range_zero]
  | succ n ih =>
    rw [cnt, add_counts, ih (by omega), Finset.sum_range_succ]
    refine congrArg _ (Finset.sum_congr rfl fun r _ => ?_)
    have hR : (row (n * 2000 + r.val)).val = 2000 * ((pt n).val % 50) + r.val := by
      have := r.isLt; show (n * 2000 + r.val) % 100000 = 2000 * (n % 100 % 50) + r.val; omega
    rw [block1 m c (pt n) r _ hR]

/-- Fifty blocks of 2000 rows are all the rows. -/
theorem sum_blocks (G : Fin 100000 → EReal) :
    ∑ s ∈ Finset.range 50, ∑ r : Fin 2000, G (row (s * 2000 + r.val)) = ∑ R : Fin 100000, G R := by
  rw [← Fin.sum_univ_eq_sum_range (fun s => ∑ r : Fin 2000, G (row (s * 2000 + r.val))) 50]
  refine (Fin.sum_univ_univ_mul_add 50 2000 fun n => G (row n)).trans ?_
  exact Finset.sum_congr rfl fun R _ => congrArg G (Fin.ext (Nat.mod_eq_of_lt R.isLt))

theorem scl_at (c : Dev nD) (g : Fin 64) (f : Fin 128) : scl m c (ix2 g f) = scale (X m c) (B m c) g.val f := by
  unfold scl scale total number
  rw [scales_at, acc_at m c g f 50 le_rfl, cnt_at m c g f 50 le_rfl,
    sum_blocks fun R => hot g.val (B m c (ix1 R)) * (X m c (ix2 R f) * X m c (ix2 R f)), sum_blocks fun R => hot g.val (B m c (ix1 R))]

/-! ## The result array -/

/-- The normalisation as an array. -/
def normed (c : Dev nD) : Vec Ideal S100000x128 .f32 := fun i => result (X m c) (B m c) (W m c) (Z m c) (i 0) (i 1)

theorem final (c : Dev nD) : (dats m 0 c).arrAt 4 cfg0.N = normed m c := by
  refine (dats m 0 c).arrAt_eq_of_covers 4 _ (by decide +kernel) fun t hf y => ?_
  have ht : 50 ≤ t.val := of_decide_eq_true ((flush4 t).symm.trans hf)
  have htN : t.val < 100 := lt_of_lt_of_eq t.isLt (show cfg0.N = 100 from N_0)
  blk_simp
  rw [after4]
  idx_vars y
  have hR : (row ((t.val - 50) * 2000 + y0.val)).val = 2000 * (t.val % 50) + y0.val := by
    have := y0.isLt; show ((t.val - 50) * 2000 + y0.val) % 100000 = _; omega
  have e : ((View.whole main_v3).slice (win0_4.rect t)).emb (ix2 y0 y1) = ix2 (row ((t.val - 50) * 2000 + y0.val)) y1 := by
    blk_ext [index4]
  rw [e]
  unfold outRows
  rw [rows_at, block1 m c t y0 _ hR, block0 m c t y0 y1 _ hR, block2, block3]
  simp only [scl_at]
  rfl

/-- The kernel's run with its result named. -/
theorem run : θ_run defs (onTc (τ := τ) (main (F := Ideal))) ⟨m, fun _ => 0, ρ⟩ (fun r => ∀ c : Dev nD,
      r.2.mem ((c.tc : Thread nD τ).loc main_v3) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).trans (final m c), h.2 c⟩) (run_value m ρ)

end Cert.Proof.KernelValue

end
-- ==== Proof.RefValue.lean ====
/- What the reference's result array holds at `Ideal` when every graph number is one of a graph: the same normalisation. -/
module

public import proofs.«01_k».proof.Proof.Gen.ReferenceIdeal.Run
public import proofs.«01_k».proof.Proof.Spec
public import Idealize.ShloMosaic.Lib.Routing.Ops
public import Idealize.ShloMosaic.Lib.Routing.OpsPair
public import Idealize.ShloMosaic.Lib.ReduceAll
public import Idealize.ShloMosaic.Lib.Pointwise.IndexBridge

@[expose] public section

set_option maxRecDepth 16384

noncomputable section

namespace Cert.Proof.RefValue

open Cert.ReferenceIdeal Cert.ReferenceIdeal.Gen Cert.Proof.Spec
open Idealize.ShloMosaic Idealize.ShloMosaic.TcCoe Idealize.SL.Sem

/-- The programs' two scatters and their gather, by short names. -/
abbrev dSum := scatter_S64x128_S100000x1_S100000x128_1_0_0_1
abbrev dCount := scatter_S64_S100000x1_S100000_n_0_0_1
abbrev dTake := gather_S64x128_S100000x1_S100000x128_1_0_n_n_0_1_1128

/-! ## Where a row is added -/

/-- A word is the number `g` of a graph when its signed reading is. -/
theorem word_eq (g : Fin 64) (v : BitVec 32) : v.toInt = (g.val : Int) ↔ BitVec.ofNat 32 g.val = v := by
  have hg := g.isLt
  rw [← BitVec.toInt_inj, BitVec.toInt_ofNat', Int.bmod_eq_of_le (by omega) (by omega)]
  exact eq_comm

theorem start_sum (I : IVec S100000x1 32) (R : Fin 100000) (c : Fin 128) : dSum.start (ix2 R c) I 0 = (I (ix2 R 0)).toInt := by
  have e : dSum.siIdx (ix2 R c) ⟨0, by decide⟩ = ix2 R 0 := funext fun a => Fin.ext (by fin_cases a <;> rfl)
  rw [← e]
  rfl

theorem start_count (I : IVec S100000x1 32) (R : Fin 100000) : dCount.start (ix1 R) I 0 = (I (ix2 R 0)).toInt := by
  have e : dCount.siIdx (ix1 R) ⟨0, by decide⟩ = ix2 R 0 := funext fun a => Fin.ext (by fin_cases a <;> rfl)
  rw [← e]
  rfl

/-- An entry of a row lands in the row of its graph, in its own column. -/
theorem lands_sum (I : IVec S100000x1 32) (R : Fin 100000) (c f : Fin 128) (g : Fin 64) :
    dSum.resultIdx? (ix2 R c) I = some (ix2 g f) ↔ BitVec.ofNat 32 g.val = I (ix2 R 0) ∧ c = f := by
  have hw0 : dSum.window (ix2 R c) 0 = 0 := rfl
  have hw1 : dSum.window (ix2 R c) 1 = c.val := rfl
  have hs1 : dSum.start (ix2 R c) I 1 = 0 := rfl
  rw [ix2_eq_valueIdx g f, Routing.resultIdx?_ix2, start_sum, hw0, hw1, hs1, ← word_eq]
  constructor
  · intro h; exact ⟨by omega, Fin.ext (by omega)⟩
  · rintro ⟨h, rfl⟩; exact ⟨by omega, by omega⟩

theorem lands_count (I : IVec S100000x1 32) (R : Fin 100000) (g : Fin 64) :
    dCount.resultIdx? (ix1 R) I = some (ix1 g) ↔ BitVec.ofNat 32 g.val = I (ix2 R 0) := by
  have hw0 : dCount.window (ix1 R) 0 = 0 := rfl
  rw [ix1_eq_valueIdx g, Routing.resultIdx?_ix1, start_count, hw0, ← word_eq]
  constructor <;> intro h <;> omega

/-- The sums of the rows' entries by graph. -/
theorem scatter_sum (o : FVec Ideal S64x128 .f32) (I : IVec S100000x1 32) (u : FVec Ideal S100000x128 .f32) (g : Fin 64) (f : Fin 128) :
    Host.scatterAdd dSum o I u (ix2 g f) = o (ix2 g f) + ∑ R : Fin 100000, hot g.val (I (ix2 R 0)) * u (ix2 R f) := by
  show o (ix2 g f) + ∑ j ∈ Finset.univ.filter (fun j => dSum.resultIdx? j I = some (ix2 g f)), u j = _
  rw [Finset.sum_filter, sum_idx2]
  refine congrArg _ (Finset.sum_congr rfl fun R _ => ?_)
  simp only [lands_sum]
  unfold hot
  by_cases h : BitVec.ofNat 32 g.val = I (ix2 R 0)
  · simp only [h, true_and, if_true, one_mul, Finset.sum_ite_eq', Finset.mem_univ]
  · simp only [h, false_and, if_false, zero_mul, Finset.sum_const_zero]

theorem scatter_count (o : FVec Ideal S64 .f32) (I : IVec S100000x1 32) (u : FVec Ideal S100000 .f32) (g : Fin 64) :
    Host.scatterAdd dCount o I u (ix1 g) = o (ix1 g) + ∑ R : Fin 100000, hot g.val (I (ix2 R 0)) * u (ix1 R) := by
  show o (ix1 g) + ∑ j ∈ Finset.univ.filter (fun j => dCount.resultIdx? j I = some (ix1 g)), u j = _
  rw [Finset.sum_filter, sum_idx1]
  refine congrArg _ (Finset.sum_congr rfl fun R _ => ?_)
  simp only [lands_count]
  unfold hot
  by_cases h : BitVec.ofNat 32 g.val = I (ix2 R 0)
  · simp only [h, if_true, one_mul]
  · simp only [h, if_false, zero_mul]

/-! ## The parts of the reference -/

variable (x : FVec Ideal S100000x128 .f32) (b : IVec S100000 32) (w z : FVec Ideal S128 .f32)

/-- The graph numbers as a column. -/
def column (v : IVec S100000 32) : IVec S100000x1 32 := broadcastInDim S100000x1 ![0] bcast_S100000_S100000x1_0 v

theorem column_at (v : IVec S100000 32) (R : Fin 100000) (q : Fin 1) : column v (ix2 R q) = v (ix1 R) := by pointwise [column]

/-- The mean of the squares of each graph. -/
def means : FVec Ideal S64x128 .f32 :=
  Host.divf
    (Host.scatterAdd dSum (broadcastInDim S64x128 ![] bcast_S_S64x128 (constant S_ .f32 0x00000000#32)) (column b) (mulf x x))
    (broadcastInDim S64x128 ![0, 1] bcast_S64x1_S64x128_0_1 (broadcastInDim S64x1 ![0] bcast_S64_S64x1_0
      (maximumf
        (Host.scatterAdd dCount (broadcastInDim S64 ![] bcast_S_S64 (constant S_ .f32 0x00000000#32)) (column b)
          (broadcastInDim S100000 ![] bcast_S_S100000 (constant S_ .f32 0x3F800000#32)))
        (broadcastInDim S64 ![] bcast_S_S64 (constant S_ .f32 0x3F800000#32)))))

/-- The graph numbers with a negative one counted from the end. -/
def wrapped : IVec S100000 32 :=
  select (cmpi .slt b (broadcastInDim S100000 ![] bcast_S_S100000 (constantI S_ 32 0#32)))
    (addi b (broadcastInDim S100000 ![] bcast_S_S100000 (constantI S_ 32 64#32))) b

/-- Whether a column of graph numbers stays inside the table. -/
def inside (I : IVec S100000x1 32) : IVec S100000 1 :=
  Host.reduce IntOp.andi
    (andi (cmpi .sge I (broadcastInDim S100000x1 ![] bcast_S_S100000x1 (constantI S_ 32 0#32)))
      (cmpi .sle I (broadcastInDim S100000x1 ![0, 1] bcast_S1x1_S100000x1_0_1
        (broadcastInDim S1x1 ![1] bcast_S1_S1x1_1 (constantI S1 32 63#32)))))
    (constantI S_ 1 1#1) reducesTo_S100000x1_S100000_d1 h_S_

/-- The rows of a table taken by a column of graph numbers, a constant where the number is outside. -/
def taken (M : FVec Ideal S64x128 .f32) (I : IVec S100000x1 32) : FVec Ideal S100000x128 .f32 :=
  select (broadcastInDim S100000x128 ![0] bcast_S100000_S100000x128_0 (inside I)) (Host.gather dTake M I)
    (broadcastInDim S100000x128 ![] bcast_S_S100000x128 (constant S_ .f32 0x7FC00000#32))

/-- The whole reference. -/
def whole : FVec Ideal S100000x128 .f32 :=
  addf
    (mulf
      (mulf x (Host.rsqrt (addf (taken (means x b) (column (wrapped b)))
        (broadcastInDim S100000x128 ![] bcast_S_S100000x128 (constant S_ .f32 0x358637BD#32)))))
      (broadcastInDim S100000x128 ![0, 1] bcast_S1x128_S100000x128_0_1 (broadcastInDim S1x128 ![1] bcast_S128_S1x128_1 w)))
    (broadcastInDim S100000x128 ![0, 1] bcast_S1x128_S100000x128_0_1 (broadcastInDim S1x128 ![1] bcast_S128_S1x128_1 z))

/-! ## The parts at an index -/

theorem means_at (g : Fin 64) (f : Fin 128) : means x b (ix2 g f) = Ideal.div (total x b g.val f) (max (number b g.val) 1) := by
  pointwise [means]
  rw [scatter_sum, scatter_count]
  simp only [column_at]
  unfold total number
  pointwise

/-- Every graph number is one of a graph. -/
def InRange : Prop := ∀ R : Fin 100000, ∃ k : Fin 64, b (ix1 R) = BitVec.ofNat 32 k.val

variable (hb : InRange b)
include hb

theorem wrapped_eq : wrapped b = b := by
  funext i
  idx_vars i
  obtain ⟨k, hk⟩ := hb i0
  have := k.isLt
  pointwise [wrapped]
  exact Routing.wrap_of_lt _ _ (by rw [hk, BitVec.toNat_ofNat]; omega)

theorem inside_at (i : S100000.Idx) : inside (column b) i = 1#1 := by
  refine Host.reduce_andi_one _ _ _ _ _ rfl fun y => ?_
  idx_vars y
  obtain ⟨k, hk⟩ := hb y0
  have all : ∀ k : Fin 64, IntOp.andi (IntOp.cmpi .sge (BitVec.ofNat 32 k.val) 0#32) (IntOp.cmpi .sle (BitVec.ofNat 32 k.val) 63#32) = 1#1 := by
    decide
  pointwise
  rw [column_at, hk]
  exact all k

omit hb in
theorem select_one {s : Shape} (p : IVec s 1) (u v : FVec Ideal s .f32) (i : s.Idx) (h : p i = 1#1) : select p u v i = u i := by
  show Scalar.select (p i) (u i) (v i) = u i
  rw [h]
  rfl

theorem taken_at (M : FVec Ideal S64x128 .f32) (R : Fin 100000) (f : Fin 128) (k : Fin 64) (hk : b (ix1 R) = BitVec.ofNat 32 k.val) :
    taken M (column b) (ix2 R f) = M (ix2 k f) := by
  have hg : Host.gather dTake M (column b) (ix2 R f) = M (ix2 k f) := by
    rw [ix2_eq_valueIdx R f, ix2_eq_valueIdx k f]
    exact Routing.gather_row dTake rfl rfl rfl rfl rfl M (column b) R f k (by rw [← ix2_eq_valueIdx, column_at, hk]) (by decide)
  have hi : broadcastInDim S100000x128 ![0] bcast_S100000_S100000x128_0 (inside (column b)) (ix2 R f) = 1#1 := inside_at b hb _
  exact (select_one _ _ _ _ hi).trans hg

/-- The reference is the normalisation. -/
theorem whole_at (R : Fin 100000) (f : Fin 128) : whole x b w z (ix2 R f) = result x b w z R f := by
  obtain ⟨k, hk⟩ := hb R
  rw [result_of x b w z R f k hk]
  unfold whole scale
  rw [wrapped_eq b hb]
  pointwise
  rw [taken_at b hb _ R f k hk, means_at]

omit hb in
/-- The reference's run with its result named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23)
          = whole (m ((c : Thread nD τ).loc main_arg0)) (m ((c : Thread nD τ).loc main_arg1)) (m ((c : Thread nD τ).loc main_arg2))
              (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Value.run m ρ

end Cert.Proof.RefValue

end
-- ==== Proof.Claims.lean ====
/- The claims, from the two programs' runs: the precondition read back, the frames, and the equality of the results. -/
module

public import proofs.«01_k».proof.Defs
public import proofs.«01_k».proof.Proof.KernelValue
public import proofs.«01_k».proof.Proof.RefValue
public import proofs.«01_k».proof.Proof.Gen.Kernel
public import proofs.«01_k».proof.Proof.Gen.Pre_graph_numbers
public import Idealize.ShloMosaic.Lib.Quiescent

@[expose] public section

set_option maxRecDepth 16384

noncomputable section

namespace Cert.Proof.Claims

open Idealize.ShloMosaic Idealize.ShloMosaic.TcCoe Idealize.SL.Sem Cert.Proof.Spec

/-- Where the precondition is all ones, every graph number is one of a graph. -/
theorem inRange [Cert.Pre_graph_numbers.Facts] (x : FVec Ideal ⟨2, ![100000, 128]⟩ .f32) (b : IVec ⟨1, ![100000]⟩ 32)
    (w z : FVec Ideal ⟨1, ![128]⟩ .f32) (h : Cert.Pre_graph_numbers.fn (F := Ideal) x b w z = fun _ => 1#1) : RefValue.InRange b := by
  intro R
  have h0 := congrFun h ix0
  dsimp only [Cert.Pre_graph_numbers.fn] at h0
  haveI : Subsingleton Cert.Pre_graph_numbers.S_.Idx := ⟨fun i j => funext fun a => a.elim0⟩
  obtain ⟨hlo, hhi⟩ := IntOp.andi_eq_one.mp (Host.reduce_andi_all _ _ _ _ _ h0 (ix1 R))
  have lo : (0#32).toInt ≤ (b (ix1 R)).toInt := IntOp.cmpi_sge.mp hlo
  have hi : (b (ix1 R)).toInt < (64#32).toInt := IntOp.cmpi_slt.mp hhi
  rw [show (0#32).toInt = 0 by decide] at lo
  rw [show (64#32).toInt = 64 by decide] at hi
  exact ⟨⟨(b (ix1 R)).toInt.toNat, by omega⟩, ((RefValue.word_eq _ _).mp (Int.toNat_of_nonneg lo).symm).symm⟩

/-- The reference's frame: it has no semaphores, and its run leaves the arguments as they were. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (RefValue.run m g)

theorem frame_kernel : Cert.quiescent_KernelIdeal (hKernelIdeal := Cert.KernelIdeal.Gen.facts) := fun m g _ => Kernel.frame m g

/-- The kernel as printed and the idealized kernel have the same body. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) := congrArg (Pipeline.defs Cert.Kernel.pcfgs) bodies_eq

/-- So the printed kernel's frame is the same run, over the machine's floats. -/
theorem frame_printed : Cert.quiescent_Kernel (hKernel := Cert.Kernel.Gen.facts) := fun m g _ => by
  rw [defs_eq]
  exact (θ_run Cert.KernelIdeal.defs _ _).mono (fun _ h => h) (Kernel.frame (F := Bits) m g)

/-- The two programs' results are equal. -/
theorem equal : Cert.algebraic_KernelIdeal_ReferenceIdeal_pre_graph_numbers (hKernelIdeal := Cert.KernelIdeal.Gen.facts)
    (hReferenceIdeal := Cert.ReferenceIdeal.Gen.facts) (hPre_graph_numbers := Cert.Pre_graph_numbers.Gen.facts) := by
  intro m g m' g' hpre hargs
  refine ⟨KernelValue.normed m, KernelValue.run m g, (θ_run _ _ _).mono (fun r h c => ⟨(h c).1.trans ?_, (h c).2⟩) (RefValue.run m' g')⟩
  obtain ⟨e0, e1, e2, e3⟩ := hargs c
  rw [e0, e1, e2, e3]
  funext i
  obtain ⟨R, f, rfl⟩ : ∃ R f, i = ix2 R f := ⟨i 0, i 1, eq_ix2 i⟩
  exact RefValue.whole_at _ _ _ _ (inRange _ _ _ _ (hpre c)) R f

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_graph_numbers
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_graph_numbers.Gen.facts,
  Claims.frame_printed,
  Claims.frame_kernel,
  fun m g _ => Claims.frame_kernel m g trivial,
  Claims.frame_reference,
  fun m g _ => Claims.frame_reference m g trivial,
  trivial,
  Claims.equal⟩

end Cert.Proof

end
